-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x200x128 : Shape := ⟨3, ![1024, 200, 128]⟩
abbrev S2x128 : Shape := ⟨2, ![2, 128]⟩
abbrev S_ : Shape := ⟨0, ![]⟩
abbrev S1x2x128 : Shape := ⟨3, ![1, 2, 128]⟩

abbrev nBuf : Table → Nat
  | .hbm => 2
  | _ => 0

abbrev bufTy : (tb : Table) → Fin (nBuf tb) → BufTy
  | .hbm, ⟨0, _⟩ => ⟨S1024x200x128, .f32⟩
  | .hbm, ⟨1, _⟩ => ⟨S2x128, .f32⟩
  | _, _ => ⟨S1024x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1024x200x128 : Shape := ⟨3, ![1024, 200, 128]⟩
abbrev S2 : Shape := ⟨1, ![2]⟩
abbrev S_ : Shape := ⟨0, ![]⟩
abbrev S2x1 : Shape := ⟨2, ![2, 1]⟩
abbrev S2x2 : Shape := ⟨2, ![2, 2]⟩
abbrev S2x128 : Shape := ⟨2, ![2, 128]⟩

abbrev nBuf : Space → Nat
  | .hbm => 16
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S2, .i32⟩
  | .hbm, ⟨2, _⟩ => ⟨S_, .i32⟩
  | .hbm, ⟨3, _⟩ => ⟨S2, .i32⟩
  | .hbm, ⟨4, _⟩ => ⟨S2, .i1⟩
  | .hbm, ⟨5, _⟩ => ⟨S_, .i32⟩
  | .hbm, ⟨6, _⟩ => ⟨S2, .i32⟩
  | .hbm, ⟨7, _⟩ => ⟨S2, .i32⟩
  | .hbm, ⟨8, _⟩ => ⟨S2, .i32⟩
  | .hbm, ⟨9, _⟩ => ⟨S_, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1, .i32⟩
  | .hbm, ⟨14, _⟩ => ⟨S2x2, .i32⟩
  | .hbm, ⟨15, _⟩ => ⟨S2x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Copy.lean ====
/-
  The copy kernel on one sequencer: SparseCore 0's scalar subcore copies rows 2 and 3 of matrix 1 of `x` into the result
  and waits for the copy on the semaphore of its scoped region. The run is stated with what the result then holds.
-/
module

public import proofs.«01_k».proof.Proof.Gen.KernelIdeal
public import proofs.«01_k».proof.Proof.Gen.KernelIdeal.Skeleton
public import Idealize.ShloMosaic.Lib.SparseCore.Quiescent
public import Idealize.ShloMosaic.Lib.Pipeline.Kit
public import Idealize.ShloMosaic.Lib.Tactic

@[expose] public section

noncomputable section

namespace Cert.Proof.Copy

open Cert.KernelIdeal Cert.KernelIdeal.Gen
open Idealize.ShloMosaic Idealize.ShloMosaic.Tactic
open Idealize.ShloMosaic.SparseCore (S)
open Idealize.ShloMosaic.SparseCore.Cfg (HIx ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The SparseCore launch of the program: one call. -/
abbrev K : SparseCore.Cfg τ sig (Pipeline.Sig Λ₀ (Fin 0) fun p => (pcfgs (F := F) p).Adm) 1 := sc (F := F)

/-- Ghost state: the launch handshakes' rounds, and the counters of the sequencer's own transfer. -/
abbrev Gh : Type := URounds (GSem nD τ sig) ℕ × Counters

local notation "𝕄" => MT nD τ sig (HIx 1) (Elt F) ℕ Gh ℕ

/-- The argument's and the result's buffers on device `d`. -/
abbrev xAt (d : Dev nD) : Loc nD τ sig := (SparseCore.T d).loc main_arg0
abbrev oAt (d : Dev nD) : Loc nD τ sig := (SparseCore.T d).loc main_v0

/-- Entry `(i, j)` of the result is entry `(1, 2 + i, j)` of the argument. -/
abbrev src (i : S2x128.Idx) : S1024x200x128.Idx :=
  fun | 0 => (1 : Fin 1024)
      | 1 => (⟨2 + (i 0).val, by have := (i 0).isLt; simp only [Matrix.cons_val_zero] at this; omega⟩ : Fin 200)
      | 2 => (⟨(i 1).val, (i 1).isLt⟩ : Fin 128)

/-- Rows 2 and 3 of matrix 1 of `x`. -/
def rows {α : Type} (x : S1024x200x128.Idx → α) : S2x128.Idx → α := fun i => x (src i)

variable [FloatOps F]

/-- The cell of the transfer's semaphore on SparseCore `c`'s sequencer. -/
abbrev cell (d : Dev nD) (c : Fin τ.nSC) : GSem nD τ sig := (S d c, .dma cc0_scoped0.sem)

/-- The argument at `x`, and the result at `f`. -/
abbrev xPts (d : Dev nD) (x : Buf (Elt F) (xAt d)) : sProp 𝕄 := xAt d ↦{fullShare} x
abbrev oPts (d : Dev nD) (f : Buf (Elt F) (oAt d)) : sProp 𝕄 := oAt d ↦{fullShare} f

/-- The kernel's view of the argument is the buffer @main hands over; the next, the same of the result. -/
theorem pts_x (d : Dev nD) (c : Fin τ.nSC) (x : Buf (Elt F) (xAt d)) :
    ((Memref.whole main_arg0_scs : Memref sig .scScalar .hbm S1024x200x128 .f32).view.loc (S d c) ↦{fullShare} x : sProp 𝕄) = xPts d x := rfl
theorem pts_o (d : Dev nD) (c : Fin τ.nSC) (f : Buf (Elt F) (oAt d)) :
    ((Memref.whole main_v0_scs : Memref sig .scScalar .hbm S2x128 .f32).view.loc (S d c) ↦{fullShare} f : sProp 𝕄) = oPts d f := rfl

/-- The sequencer's own scoped counters at zero: the transfer's, and the others. -/
theorem ownSems0_cell (d : Dev nD) (c : Fin τ.nSC) :
    (ownSems0 (S d c) : sProp 𝕄) = iprop(semVal (cell d c) 0 ∗ bigSep ((ownCells (S d c)).erase (cell d c)) fun g => semVal g 0) := by
  unfold SparseCore.Cfg.ownSems0
  exact SparseCore.bigSep_erase' ((mem_ownCells (g := cell d c)).mpr
    ⟨rfl, show (SemLoc.dma cc0_scoped0.sem : SemLoc sig).isScoped .scScalar = true by decide⟩)

/-- The entry of the source window that entry `i` of the result receives: the window `[1, 2:4, :]` with its unit axis dropped. -/
theorem src_emb (h : S2x128.numel = (Rect.unit (s := S1024x200x128) ![1, 2, 0] S1x2x128.size inb_S1024x200x128_S1x2x128_1_2_0).shape.numel)
    (i : S2x128.Idx) :
    (Rect.unit (s := S1024x200x128) ![1, 2, 0] S1x2x128.size inb_S1024x200x128_S1x2x128_1_2_0).emb (Shape.reshapeEquiv h i) = src i := by
  have e : Shape.reshapeEquiv h i = (fun | 0 => (0 : Fin 1) | 1 => i 0 | 2 => i 1 : S1x2x128.Idx) := by
    apply Shape.reshapeEquiv_eq_of_rowMajor
    rw [Shape.rowMajor_val_two]
    erw [Shape.rowMajor_val_three]
    simp
  rw [e]
  funext a
  apply Fin.ext
  match a with
  | 0 => rfl
  | 1 => exact congrArg (2 + ·) (Nat.one_mul (i 0).val)
  | 2 => exact (Nat.zero_add _).trans (Nat.one_mul (i 1).val)

/-- What the transfer lands over the whole result, whatever it held: rows 2 and 3 of matrix 1. -/
theorem landed (d : Dev nD) (c : Fin τ.nSC) (x : Buf (Elt F) (xAt d)) (f : Buf (Elt F) (oAt d)) :
    View.write (Elt F) (Memref.whole main_v0_scs : Memref sig .scScalar .hbm S2x128 .f32).view f
      ((((Memref.whole main_arg0_scs : Memref sig .scScalar .hbm S1024x200x128 .f32).slice
        (Rect.unit (s := S1024x200x128) ![1, 2, 0] S1x2x128.size inb_S1024x200x128_S1x2x128_1_2_0) (fun _ => rfl)).squeeze
          S2x128 squeezes_S1x2x128_S2x128).view.read (Elt F) x) Finset.univ
      = rows (α := Elt F .f32) x := by
  rw [View.write_whole_univ]
  funext i
  exact congrArg x (src_emb _ i)

/-- The kernel on the sequencer: from the argument at `x`, the result at anything and the scoped counters at zero, it ends
    with the argument kept, rows 2 and 3 of matrix 1 in the result and the counters at zero again. The one wait it records is
    of its own transfer. -/
theorem run (d : Dev nD) (L : grid0.Coords) (x : Buf (Elt F) (xAt d)) (O : CellTallies nD τ sig (HIx 1)) (W : Waits sig (HIx 1))
    (hO : ∀ g, O g none = 0) :
    iprop(levAts (K (F := F)).L (K (F := F)).lev ∗ xPts d x ∗ (∃ f, oPts d f)
        ∗ scopedSems0 (S d ((L 0).castLE hcore0)) ∗ owes (S d ((L 0).castLE hcore0)) O W)
      ⊢ wp frame (wpE (defs₀ (F := F)) Variants.none (S d ((L 0).castLE hcore0)) none) Set.univ
          (cc0__sc_copy L (Memref.whole main_arg0_scs) (Memref.isWhole_whole _) (Memref.whole main_v0_scs) (Memref.isWhole_whole _) cc0_scoped0)
          fun _ => iprop(xPts d x ∗ oPts d (rows (α := Elt F .f32) x) ∗ scopedSems0 (S d ((L 0).castLE hcore0))
            ∗ ∃ W', ⌜∀ p ∈ W', p ∈ W ∨ p.2 = none⌝ ∗ owes (S d ((L 0).castLE hcore0)) O W') := by
  simp only [cc0__sc_copy_eq_skeleton]; unfold cc0__sc_copy_skel
  iintro ⟨#Hlv, Hx, ⟨%f, Ho⟩, Hss, HO⟩
  ihave Hss' := (SparseCore.Cfg.scopedSems0_S_elim (Val := Elt F) d ((L 0).castLE hcore0)) $$ Hss
  icases Hss' with ⟨Hown, Hsubs⟩
  ihave Hown' := (Entails.of_eq (ownSems0_cell (F := F) d ((L 0).castLE hcore0))) $$ Hown
  icases Hown' with ⟨Hsem, Hrest⟩
  ihave Hmw := ((K (F := F)).mayWaits_none (thr := S d ((L 0).castLE hcore0)) hO) $$ Hlv
  ihave Hx' := (Entails.of_eq (pts_x (F := F) d ((L 0).castLE hcore0) _).symm) $$ Hx
  ihave Ho' := (Entails.of_eq (pts_o (F := F) d ((L 0).castLE hcore0) _).symm) $$ Ho
  sl_exec
  have hl : View.write (Elt F) (Memref.whole main_v0_scs : Memref sig .scScalar .hbm S2x128 .f32).view f (run.sl.dma0 d x) Finset.univ
      = rows (α := Elt F .f32) x := landed d ((L 0).castLE hcore0) x f
  sl_step
  ihave Hx := (Entails.of_eq (pts_x (F := F) d ((L 0).castLE hcore0) _)) $$ Hx'
  ihave Ho := (Entails.of_eq ((pts_o (F := F) d ((L 0).castLE hcore0) _).trans (congrArg (oPts d) hl))) $$ Ho'
  isplitl [Hx]; · iexact Hx
  isplitl [Ho]; · iexact Ho
  isplitl [Hsubs Hsem Hrest]
  · iapply (SparseCore.Cfg.scopedSems0_S_intro (Val := Elt F) d ((L 0).castLE hcore0))
    isplitl [Hsem Hrest]
    · rw [ownSems0_cell (F := F)]
      isplitl [Hsem]; · iexact Hsem
      iexact Hrest
    · iexact Hsubs
  iexists _
  isplitr
  swap; · iexact HO
  ipureintro
  intro p hp
  rcases Finset.mem_insert.1 hp with rfl | hp
  · exact Or.inr rfl
  · exact Or.inl hp

end Cert.Proof.Copy
-- ==== Proof.Launch.lean ====
/-
  The program's run, for any float values: @main starts the one SparseCore call, the sequencer's body is `Copy.run`, and
  every final state holds rows 2 and 3 of matrix 1 in the result, the argument as it was and every counter at zero.
-/
module

public import proofs.«01_k».proof.Proof.Copy

@[expose] public section

noncomputable section

namespace Cert.Proof.Copy

open Cert.KernelIdeal Cert.KernelIdeal.Gen
open Idealize.ShloMosaic Idealize.ShloMosaic.Tactic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ Gh ℕ

/-! ## Set-up of the launch -/

/-- The launch's semaphores are apart from the kernels' own, and no task shares a sequencer's buffer. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The launch handshakes' rounds, left of the transfer's counters. -/
abbrev EH : Emb (URounds (GSem nD τ sig) ℕ) 𝕄 := embL

abbrev 𝒱 : Variants := Variants.none.lift
abbrev v₀ : 𝒱.V := Sum.inl none

variable (m : (ℓ : Loc nD τ sig) → Buf (Elt F) ℓ) (ρ : Dev nD → PrngReg)

/-- The call lends the sequencer the argument and the result whole, and takes the result back at the rows. -/
def P : (K (F := F)).Pay (nD := nD) (Val := Elt F) (Name := ℕ) (U := Gh) where
  st := fun _ d _ => iprop(xPts d (m (xAt d)) ∗ ∃ f, oPts d f)
  dn := fun _ d _ => iprop(xPts d (m (xAt d)) ∗ oPts d (rows (α := Elt F .f32) (m (xAt d))))
  go := fun _ _ _ _ => iprop(emp)
  td := fun _ _ _ _ => iprop(emp)
  x := fun _ _ => iprop(emp)

instance : (P (F := F) m).IsStorable where
  st _ _ _ := by unfold P; infer_instance
  dn _ _ _ := by unfold P; infer_instance
  go _ _ _ _ := by unfold P; infer_instance
  td _ _ _ _ := by unfold P; infer_instance

/-- The ghost state at the launch: the handshakes' own, no transfer pending. -/
def u₀ : Gh := (initOf (K (F := F)).hsCells (K (F := F)).hsToks, 1)

variable [FloatOps F]

abbrev D : Defs nD τ sig (Elt F) (Pipeline.Sig Λ₀ (Fin 0) fun p => (pcfgs (F := F) p).Adm) := Pipeline.defs pcfgs defs₀

/-! ## The sequencer's part -/

/-- The sequencer's coordinates in the grid. -/
abbrev at₀ (c : Fin (grid0.bound 0)) : grid0.Coords := fun | 0 => c | ⟨_ + 1, h⟩ => absurd h (Nat.not_lt.2 (Nat.le_add_left _ _))

/-- The label's body on the grid's SparseCore is the kernel function at its coordinates. -/
theorem body_eq (c : Fin (grid0.bound 0)) :
    defs₀ (F := F) (.scScalar (c.castLE hcore0)) 0 ()
      = cc0__sc_copy (at₀ c) (Memref.whole main_arg0_scs) (Memref.isWhole_whole _) (Memref.whole main_v0_scs) (Memref.isWhole_whole _) cc0_scoped0 :=
  dif_pos c.isLt

/-- The body with the sequencer's scoped buffers, which it does not touch, kept beside the run. -/
theorem body (d : Dev nD) (c : Fin (grid0.bound 0)) (O : CellTallies nD τ sig (HIx 1)) (W : Waits sig (HIx 1)) (hO : ∀ g, O g none = 0) :
    iprop(levAts (K (F := F)).L (K (F := F)).lev ∗ emp ∗ (xPts d (m (xAt d)) ∗ ∃ f, oPts d f) ∗ scopedBufs (S d (c.castLE hcore0))
        ∗ scopedSems0 (S d (c.castLE hcore0)) ∗ owes (S d (c.castLE hcore0)) O W)
      ⊢ wp frame (wpE (defs₀ (F := F)) Variants.none (S d (c.castLE hcore0)) none) Set.univ (defs₀ (F := F) (.scScalar (c.castLE hcore0)) 0 ())
          fun _ => iprop((xPts d (m (xAt d)) ∗ oPts d (rows (α := Elt F .f32) (m (xAt d)))) ∗ scopedBufs (S d (c.castLE hcore0))
            ∗ scopedSems0 (S d (c.castLE hcore0))
            ∗ ∃ W', ⌜∀ p ∈ W', p ∈ W ∨ p.2 = none ∨ SparseCore.Cfg.Blocks.blk (0 : Fin 1) p.2⌝ ∗ owes (S d (c.castLE hcore0)) O W') := by
  rw [body_eq]
  iintro ⟨Hl, -, ⟨Hx, Ho⟩, Hb, Hs, HO⟩
  iapply (wp_wand frame _ _) $$ [Hl Hx Ho Hs HO]
  · iapply (run d (at₀ c) (m (xAt d)) O W hO)
    isplitl [Hl]; · iexact Hl
    isplitl [Hx]; · iexact Hx
    isplitl [Ho]; · iexact Ho
    isplitl [Hs]; · iexact Hs
    iexact HO
  iintro %_ ⟨Hx, Ho, Hs, %W', %hW, HO⟩
  isplitl [Hx Ho]
  · isplitl [Hx]; · iexact Hx
    iexact Ho
  isplitl [Hb]; · iexact Hb
  isplitl [Hs]; · iexact Hs
  iexists W'
  isplitr
  · ipureintro; exact fun p hp => (hW p hp).imp_right Or.inl
  · iexact HO

/-- The call's obligation on the sequencer: its body, from what the call lends it to what it gives back. -/
theorem sequencer : (K (F := F)).ScalarObl (D (F := F)) 𝒱 (P m) v₀ 0 := by
  intro d c O W hO _ _
  rw [show O + (P m).ox 0 (S d ((K (F := F)).core 0 c)) = O from add_zero O]
  change _ ⊢ wp _ _ _ (Pipeline.liftProg (defs₀ (F := F) (.scScalar ((K (F := F)).core 0 c)) 0 ())) _
  exact BI.Entails.trans (body m d c O W hO)
    (Pipeline.wp_liftProg (D (F := F)) (Pipeline.defs_kernel pcfgs defs₀) Variants.none _ Set.univ none _ _)

/-! ## The launch state -/

/-- The ghost state gives the handshakes their rounds, and neither a device nor a thread anything more. -/
theorem launch_state : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  rw [hx, hd]
  unfold u₀
  iintro Hu
  ihave H := (ownU_pair _ _) $$ Hu
  icases H with ⟨HH, -⟩
  imodintro
  isplitl [HH]; · iexact HH
  isplitr <;> iempintro

/-! ## @main -/

/-- A TensorCore's arrays at the launch: the argument and the result. -/
theorem arrays (d : Dev nD) :
    (unscopedBufs d (fun b => m ((SparseCore.T d).loc b)) : sProp 𝕄) = iprop(xPts d (m (xAt d)) ∗ oPts d (m (oAt d))) := by
  unfold unscopedBufs
  rw [show (Finset.univ.filter fun b : Ref sig .tc => ¬ b.isScoped) = {main_arg0, main_v0} by decide,
    SparseCore.bigSep_insert' (by decide), bigSep_singleton]

/-- What @main ends with on device `d`. -/
abbrev FIN (d : Dev nD) : sProp 𝕄 := iprop(xPts d (m (xAt d)) ∗ oPts d (rows (α := Elt F .f32) (m (xAt d))))

/-- The one SparseCore of the grid is lent both arrays; the next, it gives both back. -/
theorem st_eq (d : Dev nD) :
    (bigSep Finset.univ fun c : Fin ((K (F := F)).nCore 0) => (P m).st 0 d c) = iprop(xPts d (m (xAt d)) ∗ ∃ f, oPts d f) :=
  bigSep_univ_of_subsingleton (0 : Fin 1)
theorem dn_eq (d : Dev nD) : (bigSep Finset.univ fun c : Fin ((K (F := F)).nCore 0) => (P m).dn 0 d c) = FIN m d :=
  bigSep_univ_of_subsingleton (0 : Fin 1)

/-- @main on device `d`'s TensorCore: the call, lent both arrays. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st_eq]
    isplitl [Hx]; · iexact Hx
    iexists _; iexact Ho
  iintro ⟨Hst, Hdn⟩
  ihave Hdn' := (Entails.of_eq (dn_eq m d)) $$ Hdn
  imodintro
  isplitl [Hst]; · iexact Hst
  isplitl [Hdn']; · iexact Hdn'
  isplitl [Hb] <;> iassumption

/-! ## The final state -/

/-- Device `d`'s arrays at the end: the result at the rows, the argument as at the launch. -/
def ends (d : Dev nD) (s' : Phys nD τ sig (Elt F)) : Prop :=
  s'.mem.mem (oAt d) = rows (α := Elt F .f32) (m (xAt d)) ∧ s'.mem.mem (xAt d) = m (xAt d)

/-- What @main ends with decides the final memory. -/
theorem read_ends (d : Dev nD) (s' : Phys nD τ sig (Elt F)) : iprop(FIN m d ∗ SI s') ⊢ (⌜ends m d s'⌝ : sProp 𝕄) := by
  iintro ⟨⟨Hx, Ho⟩, HSI⟩
  ihave H := (persistent_entails_right
    (SI_pointsTo_agree (st := s') (ℓ := xAt d) (I := Finset.univ) (q := fullShare) (f := m (xAt d)))) $$ [HSI Hx]
  · isplitl [HSI] <;> iassumption
  icases H with ⟨%hx, HSI, -⟩
  ihave H := (SI_pointsTo_agree (st := s') (ℓ := oAt d) (I := Finset.univ) (q := fullShare)
    (f := rows (α := Elt F .f32) (m (xAt d)))) $$ [HSI Ho]
  · isplitl [HSI] <;> iassumption
  icases H with %ho
  ipureintro
  exact ⟨funext fun i => ho i (Finset.mem_univ i), funext fun i => hx i (Finset.mem_univ i)⟩

/-- From any memory with zero counters, for any float values: every weakly fair execution terminates, nothing faulting, and
    ends with rows 2 and 3 of matrix 1 of the argument in the result, the argument unchanged and every counter at zero. -/
theorem run_main [∀ e, Nonempty (Elt F e)] :
    θ_run (Cert.KernelIdeal.defs (F := F)) (Cert.KernelIdeal.threads (F := F)) ⟨m, fun _ => 0, ρ⟩ fun r =>
      (∀ d : Dev nD, r.2.mem (oAt d) = rows (α := Elt F .f32) (m (xAt d)) ∧ r.2.mem (xAt d) = m (xAt d)) ∧ r.2.sem = fun _ => 0 :=
  SparseCore.Cfg.θ_run_sc_quiescent (K := K (F := F)) (D := D (F := F)) (𝒱 := 𝒱) (EH := EH) (P := P m) (A := ∅) facts v₀
    (fun q _ => match q with | 0 => sequencer m)
    (fun q hq => match q with | 0 => nomatch hq)
    (fun q hq => match q with | 0 => nomatch hq)
    m ρ main (fun _ => iprop(emp)) (FIN m) (u₀ (F := F)) (sep_elim_left.trans (launch_state m)) (main_run m ρ) (ends m) (read_ends m)
    _ (fun _ h hz => ⟨h, hz⟩)

end Cert.Proof.Copy
-- ==== Proof.Rows.lean ====
/-
  The reference's gather, at the indices it prints, takes rows 2 and 3 of matrix 1.
-/
module

public import proofs.«01_k».proof.Proof.Copy
public import proofs.«01_k».proof.Proof.Gen.ReferenceIdeal.Run
public import proofs.«01_k».proof.Proof.Gen.Reference.Run

@[expose] public section

noncomputable section

namespace Cert.Proof.Rows

open Cert.ReferenceIdeal Cert.ReferenceIdeal.Gen
open Idealize.ShloMosaic

/-- The gather's index pairs: `(1, 2)` for row 0 of the result, `(1, 3)` for row 1. -/
def pairs : IVec S2x2 32 :=
  concatenate S2x2 1 [⟨S2x1, broadcastInDim S2x1 ![0] bcast_S2_S2x1_0 (id (broadcastInDim S2 ![] bcast_S_S2 (constantI S_ 32 1#32)))⟩,
    ⟨S2x1, broadcastInDim S2x1 ![0] bcast_S2_S2x1_0
      (select (cmpi .slt (fun i => lit0 (S2.rowMajor i)) (broadcastInDim S2 ![] bcast_S_S2 (constantI S_ 32 0#32)))
        (addi (fun i => lit0 (S2.rowMajor i)) (broadcastInDim S2 ![] bcast_S_S2 (constantI S_ 32 200#32)))
        (fun i => lit0 (S2.rowMajor i)))⟩] concatenates_S2x1_S2x1_S2x2_d1

/-- Those pairs entry by entry. -/
theorem pairs_eq : pairs = fun i => if i 1 = (0 : Fin 2) then 1#32 else if i 0 = (0 : Fin 2) then 2#32 else 3#32 := by
  decide

/-- The gather at those pairs is rows 2 and 3 of matrix 1. -/
theorem gather_pairs {α : Type} (x : S1024x200x128.Idx → α) :
    Host.gather gather_S1024x200x128_S2x2_S2x128_1_01_n_n_01_1_11128 x pairs = Copy.rows x := by
  rw [pairs_eq]
  funext j
  refine congrArg x (funext fun a => Fin.ext ?_)
  obtain ⟨r, c, rfl⟩ : ∃ (r : Fin 2) (c : Fin 128), j = fun | 0 => r | 1 => c :=
    ⟨j 0, j 1, funext fun b => match b with | 0 => rfl | 1 => rfl⟩
  match a with
  | 0 =>
    match r with
    | 0 => rfl
    | 1 => rfl
  | 1 =>
    match r with
    | 0 => rfl
    | 1 => rfl
  | 2 => exact Nat.zero_add _

end Cert.Proof.Rows
-- ==== Proof.lean ====
/-
  The proof of `Cert.Claim`: the kernel's run (Proof/Launch.lean) serves both its frames and both value claims; the
  references' runs are the generated ones, their gather read by Proof/Rows.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Copy
public import proofs.«01_k».proof.Proof.Launch
public import proofs.«01_k».proof.Proof.Rows
public import Idealize.ShloMosaic.Adequacy
public import Idealize.ShloMosaic.Init

@[expose] public section

noncomputable section

namespace Cert.Proof

open Idealize.ShloMosaic Idealize.SL.Sem Cert.Kernel

/-- The kernel at `Bits`: the one run, whose program is the same text. -/
theorem kernel_run (m : (ℓ : Loc nD τ sig) → Buf (Elt Bits) ℓ) (ρ : Dev nD → PrngReg) :
    θ_run (defs (F := Bits)) (threads (F := Bits)) ⟨m, fun _ => 0, ρ⟩ fun r =>
      (∀ c : Dev nD, r.2.mem ((c.tc : Thread nD τ).loc main_v0)
          = Copy.rows (α := Elt Bits .f32) (m ((c.tc : Thread nD τ).loc main_arg0))
        ∧ r.2.mem ((c.tc : Thread nD τ).loc main_arg0) = m ((c.tc : Thread nD τ).loc main_arg0))
      ∧ r.2.sem = fun _ => 0 :=
  Copy.run_main (F := Bits) m ρ

/-- `Kernel` runs, its argument is unchanged and every counter ends at zero. -/
theorem frame_kernel : Cert.quiescent_Kernel := fun m ρ _ =>
  (θ_run Cert.KernelIdeal.defs _ _).mono (fun _ h => ⟨fun c => (h.1 c).2, h.2⟩) (Copy.run_main (F := Bits) m ρ)

/-- The same of `KernelIdeal`. -/
theorem frame_kernelIdeal : Cert.quiescent_KernelIdeal := fun m ρ _ =>
  (θ_run Cert.KernelIdeal.defs _ _).mono (fun _ h => ⟨fun c => (h.1 c).2, h.2⟩) (Copy.run_main (F := Ideal) m ρ)

/-- `ReferenceIdeal` runs and leaves its argument; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of `Reference`. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the extended reals, kernel and reference both end with rows 2 and 3 of matrix 1 of the argument. -/
theorem algebraic : Cert.algebraic_KernelIdeal_ReferenceIdeal := fun m ρ m' ρ' _ hx =>
  ⟨fun c => Copy.rows (α := Elt Ideal .f32) (m ((c.tc : Thread Cert.KernelIdeal.nD Cert.KernelIdeal.τ).loc Cert.KernelIdeal.main_arg0)),
    (θ_run Cert.KernelIdeal.defs _ _).mono (fun _ h => h.1) (Copy.run_main (F := Ideal) m ρ),
    (θ_run Cert.ReferenceIdeal.defs _ _).mono
      (fun _ h c => ⟨(h c).1.trans ((Rows.gather_pairs _).trans (congrArg (Copy.rows (α := Elt Ideal .f32)) (hx c))), (h c).2⟩)
      (Cert.ReferenceIdeal.Value.run (F := Ideal) m' ρ')⟩

/-- Over bit patterns, the same: the result is copied, not computed. -/
theorem bitexact : Cert.bitexact_Kernel_Reference := fun m ρ m' ρ' _ hx =>
  ⟨fun c => Copy.rows (α := Elt Bits .f32) (m ((c.tc : Thread Cert.Kernel.nD Cert.Kernel.τ).loc Cert.Kernel.main_arg0)),
    (θ_run Cert.Kernel.defs _ _).mono (fun _ h => h.1) (kernel_run m ρ),
    (θ_run Cert.Reference.defs _ _).mono
      (fun _ h c => ⟨(h c).1.trans ((Rows.gather_pairs _).trans (congrArg (Copy.rows (α := Elt Bits .f32)) (hx c))), (h c).2⟩)
      (Cert.Reference.Value.run (F := Bits) m' ρ')⟩

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, trivial, algebraic, bitexact⟩

end Cert.Proof

end
